-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x16384 : Shape := ⟨3, ![8, 1, 16384]⟩
abbrev S8x1x32x64 : Shape := ⟨4, ![8, 1, 32, 64]⟩
abbrev S8x8192x512 : Shape := ⟨3, ![8, 8192, 512]⟩
abbrev S8x8192 : Shape := ⟨2, ![8, 8192]⟩
abbrev S8x8192x64 : Shape := ⟨3, ![8, 8192, 64]⟩
abbrev S8x32x512 : Shape := ⟨3, ![8, 32, 512]⟩
abbrev S8x32x64 : Shape := ⟨3, ![8, 32, 64]⟩
abbrev S64x1x1024 : Shape := ⟨3, ![64, 1, 1024]⟩
abbrev S1x32x512 : Shape := ⟨3, ![1, 32, 512]⟩
abbrev S1x32x64 : Shape := ⟨3, ![1, 32, 64]⟩
abbrev S1x1024x512 : Shape := ⟨3, ![1, 1024, 512]⟩
abbrev S1x1x1024 : Shape := ⟨3, ![1, 1, 1024]⟩
abbrev S1x1024x64 : Shape := ⟨3, ![1, 1024, 64]⟩
abbrev S32x1 : Shape := ⟨2, ![32, 1]⟩
abbrev S32x512 : Shape := ⟨2, ![32, 512]⟩
abbrev S1024x512 : Shape := ⟨2, ![1024, 512]⟩
abbrev S1x1024 : Shape := ⟨2, ![1, 1024]⟩
abbrev S32x1024 : Shape := ⟨2, ![32, 1024]⟩
abbrev S32x64 : Shape := ⟨2, ![32, 64]⟩
abbrev S1024x64 : Shape := ⟨2, ![1024, 64]⟩
abbrev S32 : Shape := ⟨1, ![32]⟩

abbrev nBuf : Space → Nat
  | .hbm => 10
  | .vmem => 15
  | .smem => 0
  | _ => 0

abbrev bufTy : (tb : Table) → Fin (tcTables nBuf tb) → BufTy
  | .hbm, ⟨0, _⟩ => ⟨S8x1x16384, .bf16⟩
  | .hbm, ⟨1, _⟩ => ⟨S8x1x32x64, .bf16⟩
  | .hbm, ⟨2, _⟩ => ⟨S8x8192x512, .fp8e4m3⟩
  | .hbm, ⟨3, _⟩ => ⟨S8x8192, .f32⟩
  | .hbm, ⟨4, _⟩ => ⟨S8x8192x64, .bf16⟩
  | .hbm, ⟨5, _⟩ => ⟨S8x32x512, .bf16⟩
  | .hbm, ⟨6, _⟩ => ⟨S8x32x64, .bf16⟩
  | .hbm, ⟨7, _⟩ => ⟨S64x1x1024, .f32⟩
  | .hbm, ⟨8, _⟩ => ⟨S8x32x512, .bf16⟩
  | .hbm, ⟨9, _⟩ => ⟨S8x1x16384, .bf16⟩
  | .local _ .vmem, ⟨0, _⟩ => ⟨S1x32x512, .bf16⟩
  | .local _ .vmem, ⟨1, _⟩ => ⟨S1x32x512, .bf16⟩
  | .local _ .vmem, ⟨2, _⟩ => ⟨S1x32x64, .bf16⟩
  | .local _ .vmem, ⟨3, _⟩ => ⟨S1x32x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1x1024x64, .bf16⟩
  | .local _ .vmem, ⟨9, _⟩ => ⟨S1x1024x64, .bf16⟩
  | .local _ .vmem, ⟨10, _⟩ => ⟨S1x32x512, .bf16⟩
  | .local _ .vmem, ⟨11, _⟩ => ⟨S1x32x512, .bf16⟩
  | .local _ .vmem, ⟨12, _⟩ => ⟨S32x1, .f32⟩
  | .local _ .vmem, ⟨13, _⟩ => ⟨S32x1, .f32⟩
  | .local _ .vmem, ⟨14, _⟩ => ⟨S32x512, .f32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x1x16384 : Shape := ⟨3, ![8, 1, 16384]⟩
abbrev S8x1x32x64 : Shape := ⟨4, ![8, 1, 32, 64]⟩
abbrev S8x8192x512 : Shape := ⟨3, ![8, 8192, 512]⟩
abbrev S8x8192 : Shape := ⟨2, ![8, 8192]⟩
abbrev S8x8192x64 : Shape := ⟨3, ![8, 8192, 64]⟩
abbrev S8x1x32x512 : Shape := ⟨4, ![8, 1, 32, 512]⟩
abbrev S8x1x32x8192 : Shape := ⟨4, ![8, 1, 32, 8192]⟩
abbrev S8x1x1x8192 : Shape := ⟨4, ![8, 1, 1, 8192]⟩
abbrev S_ : Shape := ⟨0, ![]⟩
abbrev S8x1x32 : Shape := ⟨3, ![8, 1, 32]⟩
abbrev S8x1x32x1 : Shape := ⟨4, ![8, 1, 32, 1]⟩

abbrev nBuf : Space → Nat
  | .hbm => 34
  | .vmem => 2
  | .smem => 0
  | _ => 0

abbrev bufTy : (tb : Table) → Fin (tcTables nBuf tb) → BufTy
  | .hbm, ⟨0, _⟩ => ⟨S8x1x16384, .bf16⟩
  | .hbm, ⟨1, _⟩ => ⟨S8x1x32x64, .bf16⟩
  | .hbm, ⟨2, _⟩ => ⟨S8x8192x512, .fp8e4m3⟩
  | .hbm, ⟨3, _⟩ => ⟨S8x8192, .f32⟩
  | .hbm, ⟨4, _⟩ => ⟨S8x8192x64, .bf16⟩
  | .hbm, ⟨5, _⟩ => ⟨S8x1x32x512, .bf16⟩
  | .hbm, ⟨6, _⟩ => ⟨S8x8192x512, .bf16⟩
  | .hbm, ⟨7, _⟩ => ⟨S8x1x32x8192, .f32⟩
  | .hbm, ⟨8, _⟩ => ⟨S8x1x32x8192, .f32⟩
  | .hbm, ⟨9, _⟩ => ⟨S8x1x1x8192, .f32⟩
  | .hbm, ⟨10, _⟩ => ⟨S8x1x32x8192, .f32⟩
  | .hbm, ⟨11, _⟩ => ⟨S8x1x32x8192, .f32⟩
  | .hbm, ⟨12, _⟩ => ⟨S8x1x32x8192, .f32⟩
  | .hbm, ⟨13, _⟩ => ⟨S_, .f32⟩
  | .hbm, ⟨14, _⟩ => ⟨S8x1x32x8192, .f32⟩
  | .hbm, ⟨15, _⟩ => ⟨S8x1x32x8192, .f32⟩
  | .hbm, ⟨16, _⟩ => ⟨S_, .f32⟩
  | .hbm, ⟨17, _⟩ => ⟨S8x1x32, .f32⟩
  | .hbm, ⟨18, _⟩ => ⟨S8x1x32x1, .f32⟩
  | .hbm, ⟨19, _⟩ => ⟨S8x1x32x8192, .f32⟩
  | .hbm, ⟨20, _⟩ => ⟨S8x1x32x8192, .f32⟩
  | .hbm, ⟨21, _⟩ => ⟨S8x1x32x8192, .f32⟩
  | .hbm, ⟨22, _⟩ => ⟨S_, .f32⟩
  | .hbm, ⟨23, _⟩ => ⟨S8x1x32, .f32⟩
  | .hbm, ⟨24, _⟩ => ⟨S8x1x32x1, .f32⟩
  | .hbm, ⟨25, _⟩ => ⟨S8x1x1x8192, .f32⟩
  | .hbm, ⟨26, _⟩ => ⟨S8x1x32x8192, .f32⟩
  | .hbm, ⟨27, _⟩ => ⟨S8x1x32x8192, .f32⟩
  | .hbm, ⟨28, _⟩ => ⟨S8x1x32x8192, .bf16⟩
  | .hbm, ⟨29, _⟩ => ⟨S8x1x32x512, .f32⟩
  | .hbm, ⟨30, _⟩ => ⟨S8x1x32x512, .f32⟩
  | .hbm, ⟨31, _⟩ => ⟨S8x1x32x512, .f32⟩
  | .hbm, ⟨32, _⟩ => ⟨S8x1x16384, .f32⟩
  | .hbm, ⟨33, _⟩ => ⟨S8x1x16384, .bf16⟩
  | .local _ .vmem, ⟨0, _⟩ => ⟨S8x8192x512, .fp8e4m3⟩
  | .local _ .vmem, ⟨1, _⟩ => ⟨S8x8192x512, .bf16⟩
  | _, _ => ⟨S8x1x16384, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8192x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelSteps.lean ====
/- WHAT ONE GRID POINT LEAVES. The kernel visits the batch rows one after another and, within a row, the eight blocks of 1024
   cached positions; three scratch buffers carry the running maximum, the running sum of the weights and the running weighted
   sum of the cached vectors from block to block. This file reads the stores that the generated run found at a point as
   values: each scratch after the point is one function of the point's five input blocks and of the three scratch values it
   started from (`stepM`, `stepL`, `stepA`), at the first block of a row those of the reset, and at the last block the output
   block is the quotient of the last two scratch values. -/
module

public import proofs.«01_k».proof.Proof.Gen.KernelIdeal.Frame
public import Idealize.ShloMosaic.Lib.Pipeline.Value
public import Idealize.ShloMosaic.Lib.Tactic

@[expose] public section

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Two zero offsets are all offsets zero. -/
theorem hz2 : (![0, 0] : Fin 2 → Nat) = fun _ => 0 := funext fun a => by fin_cases a <;> rfl

/-- Three zero offsets are all offsets zero. -/
theorem hz3 : (![0, 0, 0] : Fin 3 → Nat) = fun _ => 0 := funext fun a => by fin_cases a <;> rfl

/-- The running maximum after a block: of the query block `q`, the rotary query `r`, the codes `k`, the scales `s`, the rotary
    keys `e`, over the maximum `mo` before. -/
def stepM (q : Vec F S1x32x512 .bf16) (r : Vec F S1x32x64 .bf16) (k : Vec F S1x1024x512 .fp8e4m3) (s : Vec F S1x1x1024 .f32) (e : Vec F S1x1024x64 .bf16)
    (mo : Vec F S32x1 .f32) : Vec F S32x1 .f32 := k0_pay3 (k0_pay11 k s q r e mo)

/-- The running sum of the weights after a block, over the maximum `mo` and the sum `lo` before. -/
def stepL (q : Vec F S1x32x512 .bf16) (r : Vec F S1x32x64 .bf16) (k : Vec F S1x1024x512 .fp8e4m3) (s : Vec F S1x1x1024 .f32) (e : Vec F S1x1024x64 .bf16)
    (mo lo : Vec F S32x1 .f32) : Vec F S32x1 .f32 := k0_pay1 (k0_pay13 k s q r e mo) (k0_pay14 k s q r e mo lo)

/-- The running weighted sum of the cached vectors after a block, over the maximum `mo` and the weighted sum `ao` before. -/
def stepA (q : Vec F S1x32x512 .bf16) (r : Vec F S1x32x64 .bf16) (k : Vec F S1x1024x512 .fp8e4m3) (s : Vec F S1x1x1024 .f32) (e : Vec F S1x1024x64 .bf16)
    (mo : Vec F S32x1 .f32) (ao : Vec F S32x512 .f32) : Vec F S32x512 .f32 :=
  k0_pay2 (k0_pay8 k) (k0_pay9 s) (k0_pay12 k s q r e mo) (k0_pay13 k s q r e mo) ao

/-- At the first block of a row, the running maximum is left at `stepM` of the reset values. -/
theorem sout_A_0 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : cond0_0 i) (hc1 : ¬cond0_1 i)
    (x0 : Vec F S1x32x512 .bf16) (x1 : Vec F S1x32x64 .bf16) (x2 : Vec F S1x1024x512 .fp8e4m3) (x3 : Vec F S1x1x1024 .f32) (x4 : Vec F S1x1024x64 .bf16) :
    sout0_A_0 c i arg2 harg2 arg3 harg3 arg4 harg4 arg5 harg5 arg6 harg6 arg7 harg7 arg8 harg8 arg9 harg9 arg10 harg10 hc0 hc1 x0 x1 x2 x3 x4 = stepM x0 x1 x2 x3 x4 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S32x1) hz2]
  unfold stepM
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At the first block of a row, the running sum of the weights is left at `stepL` of the reset values. -/
theorem sout_A_1 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : cond0_0 i) (hc1 : ¬cond0_1 i)
    (x0 : Vec F S1x32x512 .bf16) (x1 : Vec F S1x32x64 .bf16) (x2 : Vec F S1x1024x512 .fp8e4m3) (x3 : Vec F S1x1x1024 .f32) (x4 : Vec F S1x1024x64 .bf16) :
    sout0_A_1 c i arg2 harg2 arg3 harg3 arg4 harg4 arg5 harg5 arg6 harg6 arg7 harg7 arg8 harg8 arg9 harg9 arg10 harg10 hc0 hc1 x0 x1 x2 x3 x4 = stepL x0 x1 x2 x3 x4 (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S32x1) hz2]
  unfold stepL
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At the first block of a row, the running weighted sum is left at `stepA` of the reset values. -/
theorem sout_A_2 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : cond0_0 i) (hc1 : ¬cond0_1 i)
    (x0 : Vec F S1x32x512 .bf16) (x1 : Vec F S1x32x64 .bf16) (x2 : Vec F S1x1024x512 .fp8e4m3) (x3 : Vec F S1x1x1024 .f32) (x4 : Vec F S1x1024x64 .bf16) :
    sout0_A_2 c i arg2 harg2 arg3 harg3 arg4 harg4 arg5 harg5 arg6 harg6 arg7 harg7 arg8 harg8 arg9 harg9 arg10 harg10 hc0 hc1 x0 x1 x2 x3 x4 = stepA x0 x1 x2 x3 x4 (k0_pay5 (F := F)) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S32x512) hz2]
  unfold stepA
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At a middle block of a row, the running maximum is left at `stepM` of what the point before left. -/
theorem sout_B_0 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : ¬cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = stepM x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S32x1) hz2]
  unfold stepM
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At a middle block of a row, the running sum of the weights is left at `stepL` of what the point before left. -/
theorem sout_B_1 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : ¬cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = stepL x0 x1 x2 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S32x1) hz2]
  unfold stepL
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At a middle block of a row, the running weighted sum is left at `stepA` of what the point before left. -/
theorem sout_B_2 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : ¬cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = stepA x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S32x512) hz2]
  unfold stepA
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At the last block of a row, the running maximum is left at `stepM` of what the point before left. -/
theorem sout_C_0 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = stepM x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S32x1) hz2]
  unfold stepM
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At the last block of a row, the running sum of the weights is left at `stepL` of what the point before left. -/
theorem sout_C_1 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = stepL x0 x1 x2 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S32x1) hz2]
  unfold stepL
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At the last block of a row, the running weighted sum is left at `stepA` of what the point before left. -/
theorem sout_C_2 (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = stepA x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S32x512) hz2]
  unfold stepA
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- At the last block of a row, the output block is the quotient (`k0_pay4`) of the weighted sum and the sum of the weights left there. -/
theorem out_C (c : Dev nD) (i : grid0.Coords) (arg2 : Memref sig .tc .vmem S1x32x512 .bf16) (harg2 : arg2.IsWhole) (arg3 : Memref sig .tc .vmem S1x32x64 .bf16) (harg3 : arg3.IsWhole) (arg4 : Memref sig .tc .vmem S1x1024x512 .fp8e4m3) (harg4 : arg4.IsWhole) (arg5 : Memref sig .tc .vmem S1x1x1024 .f32) (harg5 : arg5.IsWhole) (arg6 : Memref sig .tc .vmem S1x1024x64 .bf16) (harg6 : arg6.IsWhole) (arg7 : Memref sig .tc .vmem S1x32x512 .bf16) (harg7 : arg7.IsWhole) (arg8 : Memref sig .tc .vmem S32x1 .f32) (harg8 : arg8.IsWhole) (arg9 : Memref sig .tc .vmem S32x1 .f32) (harg9 : arg9.IsWhole) (arg10 : Memref sig .tc .vmem S32x512 .f32) (harg10 : arg10.IsWhole) (hc0 : ¬cond0_0 i) (hc1 : cond0_1 i)
    (x0 : Vec F S1x32x512 .bf16) (x1 : Vec F S1x32x64 .bf16) (x2 : Vec F S1x1024x512 .fp8e4m3) (x3 : Vec F S1x1x1024 .f32) (x4 : Vec F S1x1024x64 .bf16) (xs0 : Vec F S32x1 .f32) (xs1 : Vec F S32x1 .f32) (xs2 : Vec F S32x512 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay4 (stepA x0 x1 x2 x3 x4 xs0 xs2) (stepL x0 x1 x2 x3 x4 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1x32x512) hz3]
  unfold stepA stepL
  simp only [View.readAt_eq_ld, harg2.read_unread, harg3.read_unread, harg4.read_unread, harg5.read_unread, harg6.read_unread, harg8.read_unread, harg9.read_unread, harg10.read_unread,
    View.readCov_unit_zero (S := S32x1) _ hz2, View.readCov_unit_zero (S := S32x512) _ hz2, View.ld_unit_zero (S := S32x1) hz2, View.ld_unit_zero (S := S32x512) hz2, View.ld_unit_zero (S := S1x32x512) hz3, View.ld_unit_zero (S := S1x32x64) hz3, View.ld_unit_zero (S := S1x1024x512) hz3, View.ld_unit_zero (S := S1x1x1024) hz3, View.ld_unit_zero (S := S1x1024x64) hz3]

/-- The three scratch values after the first block of a row. -/
theorem outs_first (c : Dev nD) (t : Fin cfg0.N) (h0 : t.val % 8 = 0) :
    (outsAt0 m c t.val t.isLt).2
      = (stepM (iblk m c 0 t) (iblk m c 1 t) (iblk m c 2 t) (iblk m c 3 t) (iblk m c 4 t) (k0_pay5 (F := F)), stepL (iblk m c 0 t) (iblk m c 1 t) (iblk m c 2 t) (iblk m c 3 t) (iblk m c 4 t) (k0_pay5 (F := F)) (k0_pay6 (F := F)), stepA (iblk m c 0 t) (iblk m c 1 t) (iblk m c 2 t) (iblk m c 3 t) (iblk m c 4 t) (k0_pay5 (F := F)) (k0_pay7 (F := F))) := by
  rw [outsAt0_A m c t h0 (by omega)]
  dsimp only
  rw [sout_A_0, sout_A_1, sout_A_2]

/-- The three scratch values after a later block of a row, over those after the block before. -/
theorem outs_later (c : Dev nD) (t : Fin cfg0.N) (h0 : ¬t.val % 8 = 0) :
    (outsAt0 m c t.val t.isLt).2
      = (stepM (iblk m c 0 t) (iblk m c 1 t) (iblk m c 2 t) (iblk m c 3 t) (iblk m c 4 t) (outsAt0 m c (t.val - 1) (Nat.lt_of_le_of_lt (Nat.sub_le _ _) t.isLt)).2.1, stepL (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1, stepA (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2) := by
  by_cases h1 : t.val % 8 = 7
  · rw [outsAt0_C m c t h0 h1]
    dsimp only
    rw [sout_C_0, sout_C_1, sout_C_2]
  · rw [outsAt0_B m c t h0 h1]
    dsimp only
    rw [sout_B_0, sout_B_1, sout_B_2]

/-- The output block after the last block of a row: the quotient of the scratch values left there. -/
theorem outs_last (c : Dev nD) (t : Fin cfg0.N) (h1 : t.val % 8 = 7) :
    (outsAt0 m c t.val t.isLt).1 = k0_pay4 (outsAt0 m c t.val t.isLt).2.2.2 (outsAt0 m c t.val t.isLt).2.2.1 := by
  rw [outs_later m c t (by omega), outsAt0_C m c t (by omega) h1]
  dsimp only
  rw [out_C]

end Cert.KernelIdeal.Steps

end
-- ==== Proof.Softmax.lean ====
/- ONLINE SOFTMAX OVER THE EXTENDED REALS. A softmax-weighted sum over an axis can be computed block by block: carry the
   running maximum `m` of the scores seen so far and a running sum `v` of the weights `exp (s − m)` times the values; when a block
   raises the maximum from `m` to `m'`, rescale the running sum by `exp (m − m')` and add the block's own terms. This file proves
   that the carried pair is always the plain maximum and the plain sum of what was seen, for ALL extended-real scores and
   values: no finiteness is assumed. It is pure mathematics, over the exponential and the arithmetic that the ideal
   float values use (`⊤ + ⊥ = ⊥`, `0 * ⊤ = 0`, `exp ⊥ = 0`, `exp ⊤ = ⊤`).

   * `exp_sub_mul_exp_sub`   rescaling one weight: `exp (s − m) · exp (m − m') = exp (s − m')` whenever `s ≤ m ≤ m'`;
   * `sum_mul_of_nonneg_of_ne_top`   a nonnegative finite factor distributes over a finite sum;
   * `rescale_wsum`          rescaling the whole running sum;
   * `wsum_add`              one block's step, over scores and values numbered by the naturals. -/
module

public import Mathlib.Data.EReal.Operations
public import Mathlib.Algebra.BigOperators.Intervals
public import Idealize.ShloMosaic.PureOps.Ideal.Laws

@[expose] public section

noncomputable section

namespace Cert.OnlineSoftmax

open Idealize.ShloMosaic

/-- The exponential of a real number. -/
theorem exp_coe (r : ℝ) : Ideal.exp (r : EReal) = ((Real.exp r : ℝ) : EReal) := rfl

/-- The exponential of minus infinity is zero. -/
theorem exp_bot : Ideal.exp ⊥ = 0 := rfl

/-- A weight below the running maximum, rescaled to a larger maximum, is the weight against the larger maximum:
    `exp (s − m) · exp (m − m') = exp (s − m')` for `s ≤ m ≤ m'`, infinities included (each corner is `0 = 0`). -/
theorem exp_sub_mul_exp_sub {s m m' : EReal} (h : s ≤ m) (h' : m ≤ m') :
    Ideal.exp (s - m) * Ideal.exp (m - m') = Ideal.exp (s - m') := by
  induction m' with
  | bot =>
    obtain rfl := le_bot_iff.mp h'
    obtain rfl := le_bot_iff.mp h
    simp [exp_bot]
  | top => rw [EReal.sub_top, EReal.sub_top, exp_bot, mul_zero]
  | coe b =>
    induction m with
    | bot =>
      obtain rfl := le_bot_iff.mp h
      simp [exp_bot]
    | top => exact absurd (top_le_iff.mp h') (EReal.coe_ne_top b)
    | coe a =>
      induction s with
      | bot => simp [exp_bot]
      | top => exact absurd (top_le_iff.mp h) (EReal.coe_ne_top a)
      | coe c =>
        rw [← EReal.coe_sub, ← EReal.coe_sub, ← EReal.coe_sub, exp_coe, exp_coe, exp_coe, ← EReal.coe_mul, ← Real.exp_add]
        congr 2
        ring

/-- The exponential is nonnegative. -/
theorem exp_nonneg (x : EReal) : 0 ≤ Ideal.exp x := by
  induction x with
  | bot => exact le_of_eq exp_bot.symm
  | top => exact le_top
  | coe r => rw [exp_coe]; exact EReal.coe_nonneg.mpr (Real.exp_pos r).le

/-- The rescaling factor between two maxima is finite: the larger is subtracted. -/
theorem exp_sub_ne_top {m m' : EReal} (h : m ≤ m') : Ideal.exp (m - m') ≠ ⊤ := by
  induction m' with
  | bot => obtain rfl := le_bot_iff.mp h; simp [exp_bot]
  | top => rw [EReal.sub_top, exp_bot]; exact EReal.zero_ne_top
  | coe b =>
    induction m with
    | bot => simp [exp_bot]
    | top => exact absurd (top_le_iff.mp h) (EReal.coe_ne_top b)
    | coe a => rw [← EReal.coe_sub, exp_coe]; exact EReal.coe_ne_top _

/-- A nonnegative finite factor distributes over a finite sum of extended reals, whatever the terms. -/
theorem sum_mul_of_nonneg_of_ne_top {ι : Type*} (S : Finset ι) (f : ι → EReal) {a : EReal} (ha : 0 ≤ a) (ha' : a ≠ ⊤) :
    (∑ t ∈ S, f t) * a = ∑ t ∈ S, f t * a := by
  classical
  induction S using Finset.induction_on with
  | empty => simp
  | insert t S ht ih =>
    rw [Finset.sum_insert ht, Finset.sum_insert ht, ← ih]
    exact EReal.right_distrib_of_nonneg_of_ne_top ha ha' _ _

/-- The weighted sum of a set of positions: each value `w t` times its weight `exp (s t − m)` against `m`. -/
def wsum {ι : Type*} (S : Finset ι) (s w : ι → EReal) (m : EReal) : EReal := ∑ t ∈ S, Ideal.exp (s t - m) * w t

/-- Rescaling the weighted sum of `S` from a bound `m` of its scores to a larger one `m'`. -/
theorem rescale_wsum {ι : Type*} (S : Finset ι) (s w : ι → EReal) {m m' : EReal} (h : ∀ t ∈ S, s t ≤ m) (h' : m ≤ m') :
    wsum S s w m * Ideal.exp (m - m') = wsum S s w m' := by
  unfold wsum
  rw [sum_mul_of_nonneg_of_ne_top S _ (exp_nonneg _) (exp_sub_ne_top h')]
  refine Finset.sum_congr rfl fun t ht => ?_
  rw [mul_right_comm, exp_sub_mul_exp_sub (h t ht) h']

/-- The maximum of the scores of the first `n` positions (minus infinity for none). -/
def smax (s : ℕ → EReal) (n : ℕ) : EReal := (Finset.range n).sup s

/-- The first `n + k` positions' maximum is the larger of the first `n`'s and the next `k`'s. -/
theorem smax_add (s : ℕ → EReal) (n k : ℕ) : smax s (n + k) = max (smax s n) (smax (fun j => s (n + j)) k) := by
  unfold smax
  rw [Finset.range_add_eq_union, Finset.sup_union, Finset.sup_map]
  rfl

/-- ONE BLOCK'S STEP: the weighted sum of the first `n + k` positions against their maximum is the first `n`'s, rescaled, plus the
    next `k`'s own terms. -/
theorem wsum_add (s w : ℕ → EReal) (n k : ℕ) :
    wsum (Finset.range (n + k)) s w (smax s (n + k))
      = wsum (Finset.range n) s w (smax s n) * Ideal.exp (smax s n - smax s (n + k))
        + wsum (Finset.range k) (fun j => s (n + j)) (fun j => w (n + j)) (smax s (n + k)) := by
  rw [rescale_wsum (Finset.range n) s w (m := smax s n) (m' := smax s (n + k)) (fun t ht => Finset.le_sup (f := s) ht)
    (by rw [smax_add]; exact le_max_left _ _)]
  exact Finset.sum_range_add _ n k

/-- A fold of `max` from minus infinity over an axis of `k` positions is the maximum of the first `k` positions. -/
theorem fold_max_eq_smax {k : ℕ} (s : ℕ → EReal) (f : Fin k → EReal) (h : ∀ j : Fin k, f j = s j.val) :
    (Finset.univ : Finset (Fin k)).fold max ⊥ f = smax s k := by
  have e : (Finset.univ : Finset (Fin k)).fold max ⊥ f = (Finset.univ : Finset (Fin k)).sup f := rfl
  rw [e, smax]
  apply le_antisymm
  · exact Finset.sup_le fun j _ => (h j).le.trans (Finset.le_sup (f := s) (Finset.mem_range.mpr j.isLt))
  · exact Finset.sup_le fun t ht =>
      (h ⟨t, Finset.mem_range.mp ht⟩).ge.trans (Finset.le_sup (f := f) (Finset.mem_univ _))

/-- A sum over an axis of `k` positions is the sum over the first `k` naturals. -/
theorem sum_fin_eq_range {k : ℕ} (g : ℕ → EReal) (f : Fin k → EReal) (h : ∀ j : Fin k, f j = g j.val) :
    ∑ j : Fin k, f j = ∑ t ∈ Finset.range k, g t := by
  rw [Finset.sum_congr rfl fun j _ => h j]
  exact Fin.sum_univ_eq_sum_range g k

/-- The word of minus infinity is minus infinity. -/
theorem ofBits_neg_inf : Ideal.ofBits .f32 0xFF800000#32 = ⊥ := by
  simp [Ideal.ofBits, Ideal.ieee]

end Cert.OnlineSoftmax

end
-- ==== Proof.KernelBlock.lean ====
/- ONE BLOCK AT AN INDEX. At the ideal float values (extended reals, exact operations, format changes the identity), what one
   block of 1024 cached positions does to the carried values, read head by head: the block's score of head `h` against position
   `j` (`blockScore`), the new maximum, the new sum of weights, the new weighted sum, the reset values and the quotient. -/
module

public import proofs.«01_k».proof.Proof.KernelSteps
public import proofs.«01_k».proof.Proof.Softmax
public import Idealize.ShloMosaic.Lib.ValueIdx
public import Idealize.ShloMosaic.Lib.MatmulPlain

@[expose] public section

noncomputable section

namespace Cert.KernelIdeal.Block

open Cert.KernelIdeal Cert.KernelIdeal.Gen Cert.KernelIdeal.Steps Idealize.ShloMosaic Idealize.ShloMosaic.ValueIdx
open scoped BigOperators

/-- The score of head `h` against the block's position `j`: the dot product of the query with the stored codes, times the
    position's scale, plus the dot product of the rotary parts, times the softmax scale. -/
def blockScore (q : Vec Ideal S1x32x512 .bf16) (r : Vec Ideal S1x32x64 .bf16) (k : Vec Ideal S1x1024x512 .fp8e4m3) (s : Vec Ideal S1x1x1024 .f32)
    (e : Vec Ideal S1x1024x64 .bf16) (h : Fin 32) (j : Fin 1024) : EReal :=
  ((∑ c : Fin 512, q (ix3 0 h c) * k (ix3 0 j c)) * s (ix3 0 0 j) + ∑ c : Fin 64, r (ix3 0 h c) * e (ix3 0 j c))
    * Ideal.ofBits .f32 0x3D93CD3A#32

/-- A three-axis block with one row, read as a matrix. -/
theorem dropUnit_apply {α : Type} {a b : Nat} (v : (⟨3, ![1, a, b]⟩ : Shape).Idx → α) (h : (⟨3, ![1, a, b]⟩ : Shape).ShapeCasts ⟨2, ![a, b]⟩)
    (i : Fin a) (j : Fin b) : shapeCast ⟨2, ![a, b]⟩ v h (ix2 i j) = v (ix3 0 i j) := by
  rw [shapeCast_apply v h (ix2 i j) (ix3 0 i j) (by
    rw [Shape.rowMajor_val_three, Shape.rowMajor_val_two]
    show (0 * a + i.val) * b + j.val = i.val * b + j.val
    rw [Nat.zero_mul, Nat.zero_add])]

/-- A matrix read as a three-axis block with one row. -/
theorem addUnit_apply {α : Type} {a b : Nat} (v : (⟨2, ![a, b]⟩ : Shape).Idx → α) (h : (⟨2, ![a, b]⟩ : Shape).ShapeCasts ⟨3, ![1, a, b]⟩)
    (i : Fin a) (j : Fin b) : shapeCast ⟨3, ![1, a, b]⟩ v h (ix3 0 i j) = v (ix2 i j) := by
  rw [shapeCast_apply v h (ix3 0 i j) (ix2 i j) (by
    rw [Shape.rowMajor_val_three, Shape.rowMajor_val_two]
    show i.val * b + j.val = (0 * a + i.val) * b + j.val
    rw [Nat.zero_mul, Nat.zero_add])]

/-- A vector read as a one-column matrix. -/
theorem column_apply {α : Type} {a : Nat} (v : (⟨1, ![a]⟩ : Shape).Idx → α) (h : (⟨1, ![a]⟩ : Shape).ShapeCasts ⟨2, ![a, 1]⟩)
    (i : Fin a) : shapeCast ⟨2, ![a, 1]⟩ v h (ix2 i 0) = v (ix1 i) := by
  rw [shapeCast_apply v h (ix2 i 0) (ix1 i) (by
    rw [Shape.rowMajor_val_one, Shape.rowMajor_val_two]
    show i.val = i.val * 1 + 0
    rw [Nat.mul_one, Nat.add_zero])]

/-- A one-row matrix broadcast down the rows. -/
theorem rows_apply {α : Type} {a b : Nat} (hb : b ≠ 1) (v : (⟨2, ![1, b]⟩ : Shape).Idx → α) (h : (⟨2, ![1, b]⟩ : Shape).Broadcasts ⟨2, ![a, b]⟩)
    (i : Fin a) (j : Fin b) : broadcastTo ⟨2, ![a, b]⟩ v h (ix2 i j) = v (ix2 0 j) :=
  broadcastTo_apply v h (ix2 i j) (ix2 0 j) (fun x => by
    match x with
    | ⟨0, _⟩ => rfl
    | ⟨1, _⟩ => exact (if_neg hb).symm)

/-- A one-column matrix broadcast along the columns. -/
theorem cols_apply {α : Type} {a b : Nat} (ha : a ≠ 1) (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i 0) :=
  broadcastTo_apply v h (ix2 i j) (ix2 i 0) (fun x => by
    match x with
    | ⟨0, _⟩ => exact (if_neg ha).symm
    | ⟨1, _⟩ => rfl)

variable (q : Vec Ideal S1x32x512 .bf16) (r : Vec Ideal S1x32x64 .bf16) (k : Vec Ideal S1x1024x512 .fp8e4m3) (s : Vec Ideal S1x1x1024 .f32)
  (e : Vec Ideal S1x1024x64 .bf16)

/-- The product of a matrix with the transpose of another, from a zero accumulator, at an index. -/
theorem matmulT_apply {M K N : ℕ} {φ₁ φ₂ : FTy} (d : DotDims ⟨2, ![M, K]⟩ ⟨2, ![N, K]⟩ ⟨2, ![M, N]⟩) (hd : d = DotDims.transposedRhs M K N)
    (lhs : FVec Ideal ⟨2, ![M, K]⟩ φ₁) (rhs : FVec Ideal ⟨2, ![N, K]⟩ φ₂) (i : Fin M) (j : Fin N) :
    FloatOps.matmul d none lhs rhs (constant ⟨2, ![M, N]⟩ .f32 0x00000000#32) (ix2 i j) = ∑ c : Fin K, lhs (ix2 i c) * rhs (ix2 j c) := by
  subst hd
  rw [Ideal.matmul_transposedRhs_apply]
  show Ideal.ofBits .f32 0x00000000#32 + _ = _
  rw [Ideal.ofBits_zero_f32, zero_add]

/-- The product of two matrices, from a zero accumulator, at an index. -/
theorem matmul_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (i : Fin M) (j : Fin N) :
    FloatOps.matmul d none lhs rhs (constant ⟨2, ![M, N]⟩ .f32 0x00000000#32) (ix2 i j) = ∑ c : Fin K, lhs (ix2 i c) * rhs (ix2 c j) := by
  subst hd
  rw [Ideal.matmul_plain_apply]
  show Ideal.ofBits .f32 0x00000000#32 + _ = _
  rw [Ideal.ofBits_zero_f32, zero_add]

/-- The kernel's scores at an index. -/
theorem pay10_apply (h : Fin 32) (j : Fin 1024) : k0_pay10 k s q r e (ix2 h j) = blockScore q r k s e h j := by
  have e1 : matmul (F := Ideal) (φ₁ := .bf16) (φ₂ := .fp8e4m3) dot_S32x512_S1024x512_S32x1024_1_1_0_0_n_n none (shapeCast S32x512 q shapeCasts_S1x32x512_S32x512)
      (k0_pay8 k) (constant S32x1024 .f32 0x00000000#32) (ix2 h j) = ∑ c : Fin 512, q (ix3 0 h c) * k (ix3 0 j c) := by
    refine (matmulT_apply _ rfl _ _ h j).trans (Finset.sum_congr rfl fun c _ => ?_)
    exact congrArg₂ (· * ·) (dropUnit_apply q _ h c) (dropUnit_apply k _ j c)
  have e2 : broadcastTo S32x1024 (k0_pay9 s) broadcasts_S1x1024_S32x1024 (ix2 h j) = s (ix3 0 0 j) :=
    (rows_apply (by decide) _ _ h j).trans (dropUnit_apply s _ 0 j)
  have e3 : matmul (F := Ideal) (φ₁ := .bf16) (φ₂ := .bf16) dot_S32x64_S1024x64_S32x1024_1_1_0_0_n_n none (shapeCast S32x64 r shapeCasts_S1x32x64_S32x64)
      (shapeCast S1024x64 e shapeCasts_S1x1024x64_S1024x64) (constant S32x1024 .f32 0x00000000#32) (ix2 h j)
        = ∑ c : Fin 64, r (ix3 0 h c) * e (ix3 0 j c) := by
    refine (matmulT_apply _ rfl _ _ h j).trans (Finset.sum_congr rfl fun c _ => ?_)
    exact congrArg₂ (· * ·) (dropUnit_apply r _ h c) (dropUnit_apply e _ j c)
  exact congrArg (· * Ideal.ofBits .f32 0x3D93CD3A#32) (congrArg₂ (· + ·) (congrArg₂ (· * ·) e1 e2) e3)

/-- The maximum over a row's columns at an index. -/
theorem rowMax_apply (v : FVec Ideal S32x1024 .f32) (h : S32x1024.Reduces [1] S32) (hφ : FKind.Formats .f32)
    (hacc : (0xFF800000#32 : BitVec FTy.f32.bits) = FKind.maximumf.neutral .f32 hφ) (i : Fin 32) :
    multiReduction .maximumf [1] S32 v 0xFF800000#32 h hφ hacc (ix1 i) = Finset.univ.fold max ⊥ (fun j : Fin 1024 => v (ix2 i j)) := by
  rw [Ideal.multiReduction_maximumf_single]
  show Finset.univ.fold max (Ideal.ofBits .f32 0xFF800000#32) _ = _
  rw [Cert.OnlineSoftmax.ofBits_neg_inf]
  refine Finset.fold_congr fun j _ => congrArg v (funext fun a => Fin.ext ?_)
  match a with
  | ⟨0, _⟩ => rfl
  | ⟨1, _⟩ => rfl

/-- The sum over a row's columns at an index. -/
theorem rowSum_apply (v : FVec Ideal S32x1024 .f32) (h : S32x1024.Reduces [1] S32) (hφ : FKind.Formats .f32)
    (hacc : (0x00000000#32 : BitVec FTy.f32.bits) = FKind.add.neutral .f32 hφ) (i : Fin 32) :
    multiReduction .add [1] S32 v 0x00000000#32 h hφ hacc (ix1 i) = ∑ j : Fin 1024, v (ix2 i j) := by
  rw [Ideal.multiReduction_add_single]
  refine Finset.sum_congr rfl fun j _ => congrArg v (funext fun a => Fin.ext ?_)
  match a with
  | ⟨0, _⟩ => rfl
  | ⟨1, _⟩ => rfl

/-- The new maximum of head `h`: the larger of the old one and the block's largest score. -/
theorem pay11_apply (mo : Vec Ideal S32x1 .f32) (h : Fin 32) :
    k0_pay11 k s q r e mo (ix2 h 0) = max (mo (ix2 h 0)) (Finset.univ.fold max ⊥ (blockScore q r k s e h)) := by
  have e1 : shapeCast S32x1 (multiReduction (F := Ideal) .maximumf [1] S32 (k0_pay10 k s q r e) 0xFF800000#32 reduces_S32x1024_S32 (.inl rfl) rfl)
      shapeCasts_S32_S32x1 (ix2 h 0) = Finset.univ.fold max ⊥ (blockScore q r k s e h) := by
    refine (column_apply _ _ h).trans ((rowMax_apply _ _ _ _ h).trans ?_)
    exact Finset.fold_congr fun j _ => pay10_apply q r k s e h j
  exact congrArg (max (mo (ix2 h 0))) e1

/-- The carried maximum is the new maximum. -/
theorem stepM_eq (mo : Vec Ideal S32x1 .f32) : stepM q r k s e mo = k0_pay11 k s q r e mo := by
  unfold stepM k0_pay3
  exact shapeCast_self _ _

/-- The carried maximum of head `h` after the block. -/
theorem stepM_apply (mo : Vec Ideal S32x1 .f32) (h : Fin 32) :
    stepM q r k s e mo (ix2 h 0) = max (mo (ix2 h 0)) (Finset.univ.fold max ⊥ (blockScore q r k s e h)) := by
  rw [stepM_eq, pay11_apply]

/-- The factor that rescales head `h`'s running sums from the old maximum to the new one. -/
theorem pay12_apply (mo : Vec Ideal S32x1 .f32) (h : Fin 32) :
    k0_pay12 k s q r e mo (ix2 h 0) = Ideal.exp (mo (ix2 h 0) - stepM q r k s e mo (ix2 h 0)) := by
  rw [stepM_eq]
  rfl

/-- The block's weights against the new maximum. -/
theorem pay13_apply (mo : Vec Ideal S32x1 .f32) (h : Fin 32) (j : Fin 1024) :
    k0_pay13 k s q r e mo (ix2 h j) = Ideal.exp (blockScore q r k s e h j - stepM q r k s e mo (ix2 h 0)) := by
  rw [stepM_eq]
  unfold k0_pay13
  exact congrArg Ideal.exp (congrArg₂ (· - ·) (pay10_apply q r k s e h j) (cols_apply (by decide) _ _ h j))

/-- The running sum of the weights of head `h` after the block: the old sum rescaled, plus the block's weights. -/
theorem stepL_apply (mo lo : Vec Ideal S32x1 .f32) (h : Fin 32) :
    stepL q r k s e mo lo (ix2 h 0) = lo (ix2 h 0) * Ideal.exp (mo (ix2 h 0) - stepM q r k s e mo (ix2 h 0))
      + ∑ j : Fin 1024, Ideal.exp (blockScore q r k s e h j - stepM q r k s e mo (ix2 h 0)) := by
  unfold stepL k0_pay1 k0_pay14
  dsimp only
  rw [shapeCast_self]
  refine congrArg₂ (· + ·) (congrArg (lo (ix2 h 0) * ·) (pay12_apply q r k s e mo h)) ?_
  refine (column_apply _ _ h).trans ((rowSum_apply _ _ _ _ h).trans ?_)
  exact Finset.sum_congr rfl fun j _ => pay13_apply q r k s e mo h j

/-- The running weighted sum of head `h`, component `c`, after the block: the old sum rescaled, plus the block's codes
    weighted by the weights times the positions' scales. -/
theorem stepA_apply (mo : Vec Ideal S32x1 .f32) (ao : Vec Ideal S32x512 .f32) (h : Fin 32) (c : Fin 512) :
    stepA q r k s e mo ao (ix2 h c) = ao (ix2 h c) * Ideal.exp (mo (ix2 h 0) - stepM q r k s e mo (ix2 h 0))
      + ∑ j : Fin 1024, Ideal.exp (blockScore q r k s e h j - stepM q r k s e mo (ix2 h 0)) * (s (ix3 0 0 j) * k (ix3 0 j c)) := by
  unfold stepA k0_pay2
  refine (congrFun (shapeCast_self _ _) _).trans ?_
  refine congrArg₂ (· + ·) (congrArg (ao (ix2 h c) * ·) ((cols_apply (by decide) _ _ h c).trans (pay12_apply q r k s e mo h))) ?_
  refine (matmul_apply _ rfl _ _ h c).trans (Finset.sum_congr rfl fun j _ => ?_)
  refine (congrArg₂ (· * ·) (congrArg₂ (· * ·) (pay13_apply q r k s e mo h j)
    ((rows_apply (by decide) (k0_pay9 s) broadcasts_S1x1024_S32x1024 h j).trans (dropUnit_apply s _ 0 j))) (dropUnit_apply k _ j c)).trans ?_
  exact mul_assoc _ _ _

/-- The maximum is reset to minus infinity. -/
theorem pay5_apply (h : Fin 32) : k0_pay5 (F := Ideal) (ix2 h 0) = ⊥ := by
  unfold k0_pay5
  exact (congrFun (shapeCast_self _ _) _).trans Cert.OnlineSoftmax.ofBits_neg_inf

/-- The sum of the weights is reset to zero. -/
theorem pay6_apply (h : Fin 32) : k0_pay6 (F := Ideal) (ix2 h 0) = 0 := by
  unfold k0_pay6
  exact (congrFun (shapeCast_self _ _) _).trans Ideal.ofBits_zero_f32

/-- The weighted sum is reset to zero. -/
theorem pay7_apply (h : Fin 32) (c : Fin 512) : k0_pay7 (F := Ideal) (ix2 h c) = 0 := by
  unfold k0_pay7
  exact (congrFun (shapeCast_self _ _) _).trans Ideal.ofBits_zero_f32

/-- The output block: the weighted sum over the sum of the weights. -/
theorem pay4_apply (a : Vec Ideal S32x512 .f32) (l : Vec Ideal S32x1 .f32) (h : Fin 32) (c : Fin 512) :
    k0_pay4 a l (ix3 0 h c) = Ideal.div (a (ix2 h c)) (l (ix2 h 0)) := by
  unfold k0_pay4
  refine (addUnit_apply _ _ h c).trans ?_
  exact congrArg (Ideal.div (a (ix2 h c))) (cols_apply (by decide) l _ h c)

end Cert.KernelIdeal.Block

end
-- ==== Proof.Attention.lean ====
/- WHAT THE KERNEL COMPUTES, as one formula over the five arguments. The arguments are the query `x` (batch × 1 × heads·512), the
   rotary query `qr` (batch × 1 × heads × 64), the stored codes (batch × positions × 512), the positions' scales (batch ×
   positions) and the rotary keys `kr` (batch × positions × 64), as extended reals. Positions are numbered by the naturals
   (`pos`, modulo 8192), so that a block of positions is a range. `attn` is the softmax-weighted sum of the scaled codes over all
   8192 positions; both programs are proved to return it. -/
module

public import proofs.«01_k».proof.Proof.Softmax
public import Idealize.ShloMosaic.Lib.ValueIdx

@[expose] public section

noncomputable section

namespace Cert.Attention

open Idealize.ShloMosaic Idealize.ShloMosaic.ValueIdx Cert.OnlineSoftmax
open scoped BigOperators

/-- Position `t` of the cache. -/
def pos (t : ℕ) : Fin 8192 := ⟨t % 8192, Nat.mod_lt _ (by decide)⟩

/-- Column of component `c` of head `h` in a row of all heads' components. -/
def col (h : Fin 32) (c : Fin 512) : Fin 16384 := ⟨h.val * 512 + c.val, by omega⟩

variable (x : (⟨3, ![8, 1, 16384]⟩ : Shape).Idx → EReal) (qr : (⟨4, ![8, 1, 32, 64]⟩ : Shape).Idx → EReal)
  (codes : (⟨3, ![8, 8192, 512]⟩ : Shape).Idx → EReal) (scales : (⟨2, ![8, 8192]⟩ : Shape).Idx → EReal)
  (kr : (⟨3, ![8, 8192, 64]⟩ : Shape).Idx → EReal)

/-- The score of head `h` of batch row `b` against position `t`. -/
def score (b : Fin 8) (h : Fin 32) (t : ℕ) : EReal :=
  ((∑ c : Fin 512, x (ix3 b 0 (col h c)) * codes (ix3 b (pos t) c)) * scales (ix2 b (pos t))
      + ∑ c : Fin 64, qr (ix4 b 0 h c) * kr (ix3 b (pos t) c)) * Ideal.ofBits .f32 0x3D93CD3A#32

/-- Component `c` of the cached vector of position `t` of batch row `b`: its code times the position's scale. -/
def value (b : Fin 8) (c : Fin 512) (t : ℕ) : EReal := scales (ix2 b (pos t)) * codes (ix3 b (pos t) c)

/-- Component `c` of head `h` of batch row `b` of the result: the softmax-weighted sum of the cached vectors. -/
def attn (b : Fin 8) (h : Fin 32) (c : Fin 512) : EReal :=
  Ideal.div
    (wsum (Finset.range 8192) (score x qr codes scales kr b h) (value codes scales b c) (smax (score x qr codes scales kr b h) 8192))
    (wsum (Finset.range 8192) (score x qr codes scales kr b h) (fun _ => 1) (smax (score x qr codes scales kr b h) 8192))

/-- Every index of the result is a batch row and the column of a component of a head. -/
theorem exists_col (i : (⟨3, ![8, 1, 16384]⟩ : Shape).Idx) : ∃ (b : Fin 8) (h : Fin 32) (c : Fin 512), i = ix3 b 0 (col h c) := by
  have h1 : (i 1).val < 1 := (i 1).isLt
  have h2 : (i 2).val < 16384 := (i 2).isLt
  refine ⟨i 0, ⟨(i 2).val / 512, by omega⟩, ⟨(i 2).val % 512, by omega⟩, funext fun a => Fin.ext ?_⟩
  match a with
  | ⟨0, _⟩ => rfl
  | ⟨1, _⟩ => show (i 1).val = 0; omega
  | ⟨2, _⟩ => show (i 2).val = (i 2).val / 512 * 512 + (i 2).val % 512; omega

end Cert.Attention

end
-- ==== Proof.KernelArray.lean ====
/- THE KERNEL'S RESULT. The grid has 64 points, point `t` handling block `t % 8` of batch row `t / 8`. Each input block is read
   as a part of the arguments; by induction over a row's blocks the three carried values are the maximum, the sum of weights and
   the weighted sum of the positions seen so far (the online softmax of Softmax.lean); after the last block the quotient is the
   plain softmax attention of Attention.lean, and the blocks written back tile the result array. -/
module

public import proofs.«01_k».proof.Proof.KernelBlock
public import proofs.«01_k».proof.Proof.Attention
public import proofs.«01_k».proof.Proof.Gen.KernelIdeal.Run

@[expose] public section

noncomputable section

namespace Cert.KernelIdeal.Array

open Cert.KernelIdeal Cert.KernelIdeal.Gen Cert.KernelIdeal.Steps Cert.KernelIdeal.Block Cert.OnlineSoftmax Cert.Attention
open Idealize.ShloMosaic Idealize.ShloMosaic.TcCoe Idealize.ShloMosaic.ValueIdx Idealize.ShloMosaic.StableHlo Idealize.SL.Sem
open scoped BigOperators

/-! ## One block extends the online softmax -/

/-- If the carried values are the maximum `smax`, the sum of weights and the weighted sum over the first `n` positions, and the
    block holds the next 1024 positions, then after the block they are those over the first `n + 1024` positions. -/
theorem step_extends (q : Vec Ideal S1x32x512 .bf16) (r : Vec Ideal S1x32x64 .bf16) (k : Vec Ideal S1x1024x512 .fp8e4m3) (s : Vec Ideal S1x1x1024 .f32)
    (e : Vec Ideal S1x1024x64 .bf16) (mo lo : Vec Ideal S32x1 .f32) (ao : Vec Ideal S32x512 .f32) (h : Fin 32) (n : ℕ)
    (sc : ℕ → EReal) (v : Fin 512 → ℕ → EReal)
    (hsc : ∀ j : Fin 1024, blockScore q r k s e h j = sc (n + j.val))
    (hv : ∀ (c : Fin 512) (j : Fin 1024), s (ix3 0 0 j) * k (ix3 0 j c) = v c (n + j.val))
    (hm : mo (ix2 h 0) = smax sc n)
    (hl : lo (ix2 h 0) = wsum (Finset.range n) sc (fun _ => 1) (smax sc n))
    (ha : ∀ c, ao (ix2 h c) = wsum (Finset.range n) sc (v c) (smax sc n)) :
    stepM q r k s e mo (ix2 h 0) = smax sc (n + 1024)
      ∧ stepL q r k s e mo lo (ix2 h 0) = wsum (Finset.range (n + 1024)) sc (fun _ => 1) (smax sc (n + 1024))
      ∧ ∀ c, stepA q r k s e mo ao (ix2 h c) = wsum (Finset.range (n + 1024)) sc (v c) (smax sc (n + 1024)) := by
  have hM : stepM q r k s e mo (ix2 h 0) = smax sc (n + 1024) := by
    rw [stepM_apply, hm, fold_max_eq_smax (fun j => sc (n + j)) _ hsc, smax_add]
  refine ⟨hM, ?_, fun c => ?_⟩
  · rw [stepL_apply, hM, hm, hl, wsum_add]
    refine congrArg (_ + ·) (sum_fin_eq_range _ _ fun j => ?_)
    rw [hsc, mul_one]
  · rw [stepA_apply, hM, hm, ha, wsum_add]
    refine congrArg (_ + ·) (sum_fin_eq_range _ _ fun j => ?_)
    rw [hsc, hv]

/-! ## The blocks as parts of the arguments -/

variable (m : (ℓ : Loc nD τ sig) → Buf (Elt Ideal) ℓ) (c : Dev nD)

/-- The query argument. -/
abbrev argX : (⟨3, ![8, 1, 16384]⟩ : Shape).Idx → EReal := m ((c.tc : Thread nD τ).loc main_arg0)
/-- The rotary query argument. -/
abbrev argQr : (⟨4, ![8, 1, 32, 64]⟩ : Shape).Idx → EReal := m ((c.tc : Thread nD τ).loc main_arg1)
/-- The codes argument. -/
abbrev argCodes : (⟨3, ![8, 8192, 512]⟩ : Shape).Idx → EReal := m ((c.tc : Thread nD τ).loc main_arg2)
/-- The scales argument. -/
abbrev argScales : (⟨2, ![8, 8192]⟩ : Shape).Idx → EReal := m ((c.tc : Thread nD τ).loc main_arg3)
/-- The rotary keys argument. -/
abbrev argKr : (⟨3, ![8, 8192, 64]⟩ : Shape).Idx → EReal := m ((c.tc : Thread nD τ).loc main_arg4)

/-- The batch row of a grid point. -/
abbrev row (t : Fin cfg0.N) : Fin 8 := ⟨t.val / 8, by have := lt_of_lt_of_eq t.isLt (show cfg0.N = 64 from N_0); omega⟩

/-- The block indices of the query window. -/
theorem index0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
/-- The block indices of the rotary query window. -/
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
/-- The block indices of the codes window. -/
theorem index2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
/-- The block indices of the scales window. -/
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)
/-- The block indices of the rotary keys window. -/
theorem index4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
/-- The block indices of the result window. -/
theorem index5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- The region finds the query reshaped to one row per head. -/
theorem V_main_v0 : V m c main_v0 = shapeCast S8x32x512 (m ((c.tc : Thread nD τ).loc main_arg0)) shapeCasts_S8x1x16384_S8x32x512 := by
  show Gen.V0 m c (Proc.devRef .tc main_v0) = _
  simp only [Gen.V0, Gen.hostOps0, List.flatten_cons, List.flatten_nil, List.append_nil, List.cons_append, List.nil_append]
  after_results <;> rfl
/-- The region finds the rotary query with its unit axis dropped. -/
theorem V_main_v1 : V m c main_v1 = shapeCast S8x32x64 (m ((c.tc : Thread nD τ).loc main_arg1)) shapeCasts_S8x1x32x64_S8x32x64 := by
  show Gen.V0 m c (Proc.devRef .tc main_v1) = _
  simp only [Gen.V0, Gen.hostOps0, List.flatten_cons, List.flatten_nil, List.append_nil, List.cons_append, List.nil_append]
  after_results <;> rfl
/-- The region finds the scales as one row of 1024 per block. -/
theorem V_main_v2 : V m c main_v2 = shapeCast S64x1x1024 (m ((c.tc : Thread nD τ).loc main_arg3)) shapeCasts_S8x8192_S64x1x1024 := by
  show Gen.V0 m c (Proc.devRef .tc main_v2) = _
  simp only [Gen.V0, Gen.hostOps0, List.flatten_cons, List.flatten_nil, List.append_nil, List.cons_append, List.nil_append]
  after_results <;> rfl

/-- The query block of a point: its batch row's query, head by head. -/
theorem iblk0_apply (t : Fin cfg0.N) (h : Fin 32) (k : Fin 512) :
    iblk m c 0 t (ix3 0 h k) = argX m c (ix3 (row t) 0 (col h k)) := by
  obtain ⟨e0, e1, e2⟩ := index0 t
  have he : ((cfg0.win 0).blk t).view.emb (ix3 0 h k) = ix3 (row t) h k := funext fun a => Fin.ext (by
    match a with
    | ⟨0, _⟩ => show win0_0.index t (0 : Fin 3) * 1 + 1 * 0 = t.val / 8; omega
    | ⟨1, _⟩ => show win0_0.index t (1 : Fin 3) * 32 + 1 * h.val = h.val; omega
    | ⟨2, _⟩ => show win0_0.index t (2 : Fin 3) * 512 + 1 * k.val = k.val; omega)
  show V m c main_v0 (((cfg0.win 0).blk t).view.emb (ix3 0 h k)) = _
  rw [he, V_main_v0]
  exact shapeCast_apply _ _ _ (ix3 (row t) 0 (col h k)) (by
    rw [Shape.rowMajor_val_three, Shape.rowMajor_val_three]
    show (t.val / 8 * 1 + 0) * 16384 + (h.val * 512 + k.val) = (t.val / 8 * 32 + h.val) * 512 + k.val
    omega)

/-- The rotary query block of a point: its batch row's rotary query. -/
theorem iblk1_apply (t : Fin cfg0.N) (h : Fin 32) (k : Fin 64) :
    iblk m c 1 t (ix3 0 h k) = argQr m c (ix4 (row t) 0 h k) := by
  obtain ⟨e0, e1, e2⟩ := index1 t
  have he : ((cfg0.win 1).blk t).view.emb (ix3 0 h k) = ix3 (row t) h k := funext fun a => Fin.ext (by
    match a with
    | ⟨0, _⟩ => show win0_1.index t (0 : Fin 3) * 1 + 1 * 0 = t.val / 8; omega
    | ⟨1, _⟩ => show win0_1.index t (1 : Fin 3) * 32 + 1 * h.val = h.val; omega
    | ⟨2, _⟩ => show win0_1.index t (2 : Fin 3) * 64 + 1 * k.val = k.val; omega)
  show V m c main_v1 (((cfg0.win 1).blk t).view.emb (ix3 0 h k)) = _
  rw [he, V_main_v1]
  exact shapeCast_apply _ _ _ (ix4 (row t) 0 h k) (by
    rw [Shape.rowMajor_val_three, Shape.rowMajor_val_four]
    show ((t.val / 8 * 1 + 0) * 32 + h.val) * 64 + k.val = (t.val / 8 * 32 + h.val) * 64 + k.val
    omega)

/-- The position of a point's block entry `j`: block `t % 8` starts at position `1024 * (t % 8)`. -/
theorem pos_block (t : Fin cfg0.N) (j : Fin 1024) : (pos (1024 * (t.val % 8) + j.val)).val = 1024 * (t.val % 8) + j.val := by
  show (1024 * (t.val % 8) + j.val) % 8192 = _
  omega

/-- The codes block of a point: the next 1024 positions of its batch row. -/
theorem iblk2_apply (t : Fin cfg0.N) (j : Fin 1024) (k : Fin 512) :
    iblk m c 2 t (ix3 0 j k) = argCodes m c (ix3 (row t) (pos (1024 * (t.val % 8) + j.val)) k) := by
  obtain ⟨e0, e1, e2⟩ := index2 t
  have hp := pos_block t j
  have he : ((cfg0.win 2).blk t).view.emb (ix3 0 j k) = ix3 (row t) (pos (1024 * (t.val % 8) + j.val)) k := funext fun a => Fin.ext (by
    match a with
    | ⟨0, _⟩ => show win0_2.index t (0 : Fin 3) * 1 + 1 * 0 = t.val / 8; omega
    | ⟨1, _⟩ => show win0_2.index t (1 : Fin 3) * 1024 + 1 * j.val = (pos (1024 * (t.val % 8) + j.val)).val; omega
    | ⟨2, _⟩ => show win0_2.index t (2 : Fin 3) * 512 + 1 * k.val = k.val; omega)
  show V m c main_arg2 (((cfg0.win 2).blk t).view.emb (ix3 0 j k)) = _
  rw [he, V_main_arg2]

/-- The scales block of a point: those of the next 1024 positions of its batch row. -/
theorem iblk3_apply (t : Fin cfg0.N) (j : Fin 1024) :
    iblk m c 3 t (ix3 0 0 j) = argScales m c (ix2 (row t) (pos (1024 * (t.val % 8) + j.val))) := by
  obtain ⟨e0, e1, e2⟩ := index3 t
  have hp := pos_block t j
  have hN : t.val < 64 := lt_of_lt_of_eq t.isLt (show cfg0.N = 64 from N_0)
  have he : ((cfg0.win 3).blk t).view.emb (ix3 0 0 j) = ix3 (⟨t.val, hN⟩ : Fin 64) (0 : Fin 1) j := funext fun a => Fin.ext (by
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 1024 + 1 * j.val = j.val; omega)
  show V m c main_v2 (((cfg0.win 3).blk t).view.emb (ix3 0 0 j)) = _
  rw [he, V_main_v2]
  exact shapeCast_apply _ _ _ (ix2 (row t) (pos (1024 * (t.val % 8) + j.val))) (by
    rw [Shape.rowMajor_val_three, Shape.rowMajor_val_two]
    show t.val / 8 * 8192 + (pos (1024 * (t.val % 8) + j.val)).val = (t.val * 1 + 0) * 1024 + j.val
    omega)

/-- The rotary keys block of a point: those of the next 1024 positions of its batch row. -/
theorem iblk4_apply (t : Fin cfg0.N) (j : Fin 1024) (k : Fin 64) :
    iblk m c 4 t (ix3 0 j k) = argKr m c (ix3 (row t) (pos (1024 * (t.val % 8) + j.val)) k) := by
  obtain ⟨e0, e1, e2⟩ := index4 t
  have hp := pos_block t j
  have he : ((cfg0.win 4).blk t).view.emb (ix3 0 j k) = ix3 (row t) (pos (1024 * (t.val % 8) + j.val)) k := funext fun a => Fin.ext (by
    match a with
    | ⟨0, _⟩ => show win0_4.index t (0 : Fin 3) * 1 + 1 * 0 = t.val / 8; omega
    | ⟨1, _⟩ => show win0_4.index t (1 : Fin 3) * 1024 + 1 * j.val = (pos (1024 * (t.val % 8) + j.val)).val; omega
    | ⟨2, _⟩ => show win0_4.index t (2 : Fin 3) * 64 + 1 * k.val = k.val; omega)
  show V m c main_arg4 (((cfg0.win 4).blk t).view.emb (ix3 0 j k)) = _
  rw [he, V_main_arg4]

/-- The scores of a batch row's head, over the arguments. -/
abbrev sc (b : Fin 8) (h : Fin 32) : ℕ → EReal := score (argX m c) (argQr m c) (argCodes m c) (argScales m c) (argKr m c) b h
/-- The cached vectors of a batch row, over the arguments. -/
abbrev vl (b : Fin 8) (k : Fin 512) : ℕ → EReal := value (argCodes m c) (argScales m c) b k

/-- A point's block scores are the row's scores at the block's positions. -/
theorem blockScore_eq (t : Fin cfg0.N) (h : Fin 32) (j : Fin 1024) :
    blockScore (iblk m c 0 t) (iblk m c 1 t) (iblk m c 2 t) (iblk m c 3 t) (iblk m c 4 t) h j = sc m c (row t) h (1024 * (t.val % 8) + j.val) := by
  unfold blockScore sc score
  simp only [iblk0_apply, iblk1_apply, iblk2_apply, iblk3_apply, iblk4_apply]

/-- A point's scales block, as extended reals. -/
abbrev blkScales (t : Fin cfg0.N) : S1x1x1024.Idx → EReal := iblk m c 3 t
/-- A point's codes block, as extended reals. -/
abbrev blkCodes (t : Fin cfg0.N) : S1x1024x512.Idx → EReal := iblk m c 2 t

/-- A point's scaled codes are the row's cached vectors at the block's positions. -/
theorem blockValue_eq (t : Fin cfg0.N) (k : Fin 512) (j : Fin 1024) :
    blkScales m c t (ix3 0 0 j) * blkCodes m c t (ix3 0 j k)
      = vl m c (row t) k (1024 * (t.val % 8) + j.val) := by
  exact congrArg₂ (fun a b : EReal => a * b) (iblk3_apply m c t j) (iblk2_apply m c t j k)

/-! ## The carried values after each point -/

/-- What head `h`'s carried values are after a point: the maximum, the sum of weights and the weighted sum over the positions of
    the row's blocks up to the point's. -/
def Carried (t : Fin cfg0.N) (o : Vec Ideal S32x1 .f32 × Vec Ideal S32x1 .f32 × Vec Ideal S32x512 .f32) (h : Fin 32) : Prop :=
  o.1 (ix2 h 0) = smax (sc m c (row t) h) (1024 * (t.val % 8) + 1024)
    ∧ o.2.1 (ix2 h 0) = wsum (Finset.range (1024 * (t.val % 8) + 1024)) (sc m c (row t) h) (fun _ => 1) (smax (sc m c (row t) h) (1024 * (t.val % 8) + 1024))
    ∧ ∀ k, o.2.2 (ix2 h k) = wsum (Finset.range (1024 * (t.val % 8) + 1024)) (sc m c (row t) h) (vl m c (row t) k) (smax (sc m c (row t) h) (1024 * (t.val % 8) + 1024))

/-- After every point the carried values are those of the positions seen so far. -/
theorem carried : ∀ (n : ℕ) (hn : n < cfg0.N) (h : Fin 32), Carried m c ⟨n, hn⟩ (outsAt0 m c n hn).2 h := by
  intro n
  induction n with
  | zero =>
    intro hn h
    rw [show (outsAt0 m c 0 hn).2 = _ from outs_first m c ⟨0, hn⟩ rfl]
    exact step_extends _ _ _ _ _ _ _ _ h (1024 * (0 % 8)) _ _ (blockScore_eq m c ⟨0, hn⟩ h) (blockValue_eq m c ⟨0, hn⟩)
      (pay5_apply h) (pay6_apply h) (pay7_apply h)
  | succ n ih =>
    intro hn h
    by_cases h0 : (n + 1) % 8 = 0
    · rw [show (outsAt0 m c (n + 1) hn).2 = _ from outs_first m c ⟨n + 1, hn⟩ h0]
      have hz : 1024 * ((n + 1) % 8) = 0 := by omega
      refine step_extends _ _ _ _ _ _ _ _ h (1024 * ((n + 1) % 8)) _ _ (blockScore_eq m c ⟨n + 1, hn⟩ h) (blockValue_eq m c ⟨n + 1, hn⟩) ?_ ?_ ?_
      · rw [hz]; exact pay5_apply h
      · rw [hz]; exact pay6_apply h
      · rw [hz]; exact pay7_apply h
    · rw [show (outsAt0 m c (n + 1) hn).2 = _ from outs_later m c ⟨n + 1, hn⟩ h0]
      have hz : 1024 * (n % 8) + 1024 = 1024 * ((n + 1) % 8) := by omega
      have hr : row ⟨n, Nat.lt_of_succ_lt hn⟩ = row ⟨n + 1, hn⟩ := Fin.ext (by show n / 8 = (n + 1) / 8; omega)
      obtain ⟨hm, hl, ha⟩ := ih (Nat.lt_of_succ_lt hn) h
      rw [hr] at hm hl ha
      dsimp only at hm hl ha
      rw [hz] at hm hl ha
      exact step_extends _ _ _ _ _ _ _ _ h (1024 * ((n + 1) % 8)) _ _ (blockScore_eq m c ⟨n + 1, hn⟩ h) (blockValue_eq m c ⟨n + 1, hn⟩)
        hm hl ha

/-! ## The result array -/

/-- The kernel's array at an index: the softmax attention of the arguments. -/
def G : Buf (Elt Ideal) ((c : Thread nD τ).loc main_v3) := fun (i : S8x32x512.Idx) =>
  attn (argX m c) (argQr m c) (argCodes m c) (argScales m c) (argKr m c) (i 0) (i 1) (i 2)

/-- `G` at explicit coordinates. -/
theorem G_apply (b : Fin 8) (h : Fin 32) (k : Fin 512) :
    G m c (ix3 b h k) = attn (argX m c) (argQr m c) (argCodes m c) (argScales m c) (argKr m c) b h k := rfl

/-- The output block left at the last block of a row is the softmax attention of the row. -/
theorem out_last (t : Fin cfg0.N) (h7 : t.val % 8 = 7) (h : Fin 32) (k : Fin 512) :
    (outsAt0 m c t.val t.isLt).1 (ix3 0 h k)
      = attn (argX m c) (argQr m c) (argCodes m c) (argScales m c) (argKr m c) (row t) h k := by
  obtain ⟨hm, hl, ha⟩ := carried m c t.val t.isLt h
  have hz : 1024 * (t.val % 8) + 1024 = 8192 := by omega
  dsimp only at hl ha
  rw [hz] at hl ha
  rw [outs_last m c t h7, pay4_apply, hl, ha]
  rfl

/-- What a point writes back is its block of `G`. -/
theorem flushed_eq (t : Fin cfg0.N) (hf : (cfg0.win 5).flush t = true) :
    (dats m 0 c).flushed 5 t = ((cfg0.win 5).blk t).view.read (Elt Ideal) (G m c) := by
  show (cfg0.win 5).cut (grid0.coords t) ((dats m 0 c).after 5 t) = _
  rw [after0_5]
  have h7 : t.val % 8 = 7 := (flush0_5 t).mp hf
  obtain ⟨e0, e1, e2⟩ := index5 t
  funext y
  have hy0 : (y 0).val < 1 := (y 0).isLt
  have hy1 : (y 1).val < 32 := (y 1).isLt
  have hy2 : (y 2).val < 512 := (y 2).isLt
  have hx : (cfg0.win 5).xinj (grid0.coords t) y = ix3 (0 : Fin 1) (⟨(y 1).val, hy1⟩ : Fin 32) (⟨(y 2).val, hy2⟩ : Fin 512) := funext fun a => Fin.ext (by
    match a with
    | ⟨0, _⟩ => show (y 0).val = 0; omega
    | ⟨1, _⟩ => rfl
    | ⟨2, _⟩ => rfl)
  have he : ((cfg0.win 5).blk t).view.emb y = ix3 (row t) (⟨(y 1).val, hy1⟩ : Fin 32) (⟨(y 2).val, hy2⟩ : Fin 512) := funext fun a => Fin.ext (by
    match a with
    | ⟨0, _⟩ => show win0_5.index t (0 : Fin 3) * 1 + 1 * (y 0).val = t.val / 8; omega
    | ⟨1, _⟩ => show win0_5.index t (1 : Fin 3) * 32 + 1 * (y 1).val = (y 1).val; omega
    | ⟨2, _⟩ => show win0_5.index t (2 : Fin 3) * 512 + 1 * (y 2).val = (y 2).val; omega)
  have key : (outsAt0 m c t.val t.isLt).1 (ix3 (0 : Fin 1) (⟨(y 1).val, hy1⟩ : Fin 32) (⟨(y 2).val, hy2⟩ : Fin 512))
      = G m c (ix3 (row t) (⟨(y 1).val, hy1⟩ : Fin 32) (⟨(y 2).val, hy2⟩ : Fin 512)) :=
    (out_last m c t h7 _ _).trans (G_apply m c _ _ _).symm
  rw [← hx, ← he] at key
  revert key
  generalize (outsAt0 m c t.val t.isLt).1 = o
  generalize G m c = g
  intro key
  exact key

/-- An index of the array is in point `t`'s block iff each coordinate is in the block's range on its axis. -/
theorem mem_blk (t : Fin cfg0.N) (i : S8x32x512.Idx) :
    i ∈ ((cfg0.win 5).blk t).view.set ↔ ∀ a : Fin 3, win0_5.index t a * S1x32x512.size a ≤ (i a).val ∧ (i a).val < win0_5.index t a * S1x32x512.size a + S1x32x512.size a := by
  show i ∈ ((View.whole main_v3).slice (win0_5.rect t)).set ↔ _
  rw [View.set_slice_whole, Rect.mem_set_unit]
  exact Iff.rfl

/-- Every index is in the block written back at the last block of its batch row. -/
theorem covered (i : S8x32x512.Idx) : ∃ t : Fin cfg0.N, (cfg0.win 5).flush t = true ∧ i ∈ ((cfg0.win 5).blk t).view.set := by
  have hi0 : (i 0).val < 8 := (i 0).isLt
  have hi1 : (i 1).val < 32 := (i 1).isLt
  have hi2 : (i 2).val < 512 := (i 2).isLt
  have hN : 8 * (i 0).val + 7 < cfg0.N := lt_of_lt_of_eq (by omega) (show (64 : ℕ) = cfg0.N from N_0.symm)
  obtain ⟨e0, e1, e2⟩ := index5 ⟨8 * (i 0).val + 7, hN⟩
  dsimp only at e0
  refine ⟨⟨8 * (i 0).val + 7, hN⟩, (flush0_5 _).mpr (by show (8 * (i 0).val + 7) % 8 = 7; omega), ?_⟩
  rw [mem_blk]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 32 ≤ (i 1).val ∧ (i 1).val < win0_5.index _ (1 : Fin 3) * 32 + 32; omega
  | ⟨2, _⟩ => show win0_5.index _ (2 : Fin 3) * 512 ≤ (i 2).val ∧ (i 2).val < win0_5.index _ (2 : Fin 3) * 512 + 512; omega

/-- The array the kernel leaves is the softmax attention of the arguments. -/
theorem array_eq : Cert.KernelIdeal.Value.reg_main_v3 m c = G m c :=
  (dats m 0 c).arrAt_eq_of_cover 5 _ (fun t hf => flushed_eq m c t hf) (fun i => covered i)

/-- The kernel's result at batch row `b`, column of component `k` of head `h`: the softmax attention. -/
theorem result_apply (b : Fin 8) (h : Fin 32) (k : Fin 512) :
    shapeCast S8x1x16384 (Cert.KernelIdeal.Value.reg_main_v3 m c) shapeCasts_S8x32x512_S8x1x16384 (ix3 b 0 (col h k))
      = attn (argX m c) (argQr m c) (argCodes m c) (argScales m c) (argKr m c) b h k := by
  rw [array_eq]
  exact shapeCast_apply _ _ _ (ix3 b h k) (by
    rw [Shape.rowMajor_val_three, Shape.rowMajor_val_three]
    show (b.val * 32 + h.val) * 512 + k.val = (b.val * 1 + 0) * 16384 + (h.val * 512 + k.val)
    omega)

end Cert.KernelIdeal.Array

end
-- ==== Proof.ReferenceValue.lean ====
/- THE REFERENCE'S RESULT. Its one gridless kernel widens the codes, which at the idealized floats leaves them as they are; the
   host operations after it are the scores, their softmax and the weighted sum over all positions at once. Read at an index,
   operation by operation, the result is the softmax attention of Attention.lean. -/
module

public import proofs.«01_k».proof.Proof.Attention
public import proofs.«01_k».proof.Proof.Gen.ReferenceIdeal.Run
public import proofs.«01_k».proof.Proof.Gen.ReferenceIdeal.Read

@[expose] public section

noncomputable section

namespace Cert.ReferenceIdeal.Attn

open Cert.ReferenceIdeal Cert.ReferenceIdeal.Gen Cert.ReferenceIdeal.Read Cert.OnlineSoftmax Cert.Attention
open Idealize.ShloMosaic Idealize.ShloMosaic.TcCoe Idealize.ShloMosaic.ValueIdx Idealize.ShloMosaic.StableHlo Idealize.SL.Sem
open scoped BigOperators

/-! ## The widened codes -/

variable (m : (ℓ : Loc nD τ sig) → Buf (Elt Ideal) ℓ) (c : Dev nD)

/-- Three zero offsets are all offsets zero. -/
theorem hz3 : (![0, 0, 0] : Fin 3 → Nat) = fun _ => 0 := funext fun a => by fin_cases a <;> rfl

/-- The codes argument, as extended reals. -/
abbrev argCodes : S8x8192x512.Idx → EReal := m ((c.tc : Thread nD τ).loc main_arg2)

/-- The codes as the contents of the kernel's result array. -/
def W : Buf (Elt Ideal) ((c : Thread nD τ).loc main_v1) := fun (i : S8x8192x512.Idx) => argCodes m c i

/-- The kernel's result block is its input block. -/
theorem out_eq (x : Vec Ideal S8x8192x512 .fp8e4m3) (y : S8x8192x512.Idx) : out0_1 x y = x y := by
  unfold out0_1
  rw [View.canon_cons_unit_zero (S := S8x8192x512) hz3, View.ld_unit_zero (S := S8x8192x512) hz3]
  rfl

/-- The input window's one block is the whole array. -/
theorem emb0 (t : Fin cfg0.N) (y : S8x8192x512.Idx) : ((cfg0.win 0).blk t).view.emb y = y := funext fun a => Fin.ext (by
  have h : (((cfg0.win 0).blk t).view.emb y a).val = 0 * S8x8192x512.size a + 1 * (y a).val := rfl
  omega)

/-- The result window's one block is the whole array. -/
theorem emb1 (t : Fin cfg0.N) (y : S8x8192x512.Idx) : ((cfg0.win 1).blk t).view.emb y = y := funext fun a => Fin.ext (by
  have h : (((cfg0.win 1).blk t).view.emb y a).val = 0 * S8x8192x512.size a + 1 * (y a).val := rfl
  omega)

/-- The input block is the codes. -/
theorem iblk0_apply (t : Fin cfg0.N) (y : S8x8192x512.Idx) : iblk m c 0 t y = argCodes m c y := by
  show V m c main_arg2 (((cfg0.win 0).blk t).view.emb y) = _
  rw [emb0, V_main_arg2]

/-- What the one point writes back is the codes. -/
theorem flushed_eq (t : Fin cfg0.N) : (dats m 0 c).flushed 1 t = ((cfg0.win 1).blk t).view.read (Elt Ideal) (W m c) := by
  show (cfg0.win 1).cut (grid0.coords t) ((dats m 0 c).after 1 t) = _
  rw [after0_1]
  funext y
  have hx : (cfg0.win 1).xinj (grid0.coords t) y = y := funext fun a => Fin.ext rfl
  have key : out0_1 (iblk m c 0 t) y = W m c y := (out_eq _ _).trans (iblk0_apply m c t y)
  have he := emb1 t y
  revert key
  generalize out0_1 (iblk m c 0 t) = o
  generalize W m c = g
  intro key
  exact key.trans (congrArg g he.symm)

/-- Every index is in the one block. -/
theorem covered (i : S8x8192x512.Idx) : ∃ t : Fin cfg0.N, (cfg0.win 1).flush t = true ∧ i ∈ ((cfg0.win 1).blk t).view.set :=
  ⟨⟨0, by decide⟩, flush0_1 _, by
    have h := View.emb_mem_set ((cfg0.win 1).blk ⟨0, by decide⟩).view i
    rwa [emb1] at h⟩

/-- The array the kernel leaves is the codes. -/
theorem array_eq : Cert.ReferenceIdeal.Value.reg_main_v1 m c = W m c :=
  (dats m 0 c).arrAt_eq_of_cover 1 _ (fun t _ => flushed_eq m c t) (fun i => covered i)

/-! ## The host operations at an index -/

variable (x : (⟨3, ![8, 1, 16384]⟩ : Shape).Idx → EReal) (x1 : (⟨4, ![8, 1, 32, 64]⟩ : Shape).Idx → EReal)
  (r : (⟨3, ![8, 8192, 512]⟩ : Shape).Idx → EReal) (x3 : (⟨2, ![8, 8192]⟩ : Shape).Idx → EReal)
  (x4 : (⟨3, ![8, 8192, 64]⟩ : Shape).Idx → EReal) (e : (⟨4, ![8, 1, 32, 512]⟩ : Shape).Idx → EReal)

/-- A position below 8192 is itself. -/
theorem pos_val (j : Fin 8192) : pos j.val = j := Fin.ext (Nat.mod_eq_of_lt j.isLt)

/-- The query index of the codes' product. -/
theorem lidx2 (b : Fin 8) (h : Fin 32) (j : Fin 8192) (k : Fin 512) : lidx_main_v2 (ix4 b 0 h j) k = ix4 b 0 h k :=
  funext fun a => by match a with | ⟨0, _⟩ => rfl | ⟨1, _⟩ => rfl | ⟨2, _⟩ => rfl | ⟨3, _⟩ => rfl
/-- The codes index of the codes' product. -/
theorem ridx2 (b : Fin 8) (h : Fin 32) (j : Fin 8192) (k : Fin 512) : ridx_main_v2 (ix4 b 0 h j) k = ix3 b j k :=
  funext fun a => by match a with | ⟨0, _⟩ => rfl | ⟨1, _⟩ => rfl | ⟨2, _⟩ => rfl
/-- The query index of the rotary product. -/
theorem lidx3 (b : Fin 8) (h : Fin 32) (j : Fin 8192) (k : Fin 64) : lidx_main_v3 (ix4 b 0 h j) k = ix4 b 0 h k :=
  funext fun a => by match a with | ⟨0, _⟩ => rfl | ⟨1, _⟩ => rfl | ⟨2, _⟩ => rfl | ⟨3, _⟩ => rfl
/-- The key index of the rotary product. -/
theorem ridx3 (b : Fin 8) (h : Fin 32) (j : Fin 8192) (k : Fin 64) : ridx_main_v3 (ix4 b 0 h j) k = ix3 b j k :=
  funext fun a => by match a with | ⟨0, _⟩ => rfl | ⟨1, _⟩ => rfl | ⟨2, _⟩ => rfl
/-- The scale the codes' product is multiplied by. -/
theorem idx45 (b : Fin 8) (h : Fin 32) (j : Fin 8192) : idx_main_v4 (idx_main_v5 (ix4 b 0 h j)) = ix2 b j :=
  funext fun a => by match a with | ⟨0, _⟩ => rfl | ⟨1, _⟩ => rfl
/-- The scale a weight is multiplied by. -/
theorem idx1718 (b : Fin 8) (h : Fin 32) (j : Fin 8192) : idx_main_v17 (idx_main_v18 (ix4 b 0 h j)) = ix2 b j :=
  funext fun a => by match a with | ⟨0, _⟩ => rfl | ⟨1, _⟩ => rfl
/-- The maximum a score is compared with. -/
theorem idx1112 (b : Fin 8) (h : Fin 32) (j : Fin 8192) : idx_main_v11 (idx_main_v12 (ix4 b 0 h j)) = ix3 b 0 h :=
  funext fun a => by match a with | ⟨0, _⟩ => rfl | ⟨1, _⟩ => rfl | ⟨2, _⟩ => rfl
/-- The weights a sum of weights runs over. -/
theorem idx15 (b : Fin 8) (h : Fin 32) (j : Fin 8192) : idx_main_v15 (ix3 b 0 h) j = ix4 b 0 h j :=
  funext fun a => by match a with | ⟨0, _⟩ => rfl | ⟨1, _⟩ => rfl | ⟨2, _⟩ => rfl | ⟨3, _⟩ => rfl
/-- The sum of weights a component is divided by. -/
theorem idx1622 (b : Fin 8) (h : Fin 32) (c : Fin 512) : idx_main_v16 (idx_main_v22 (ix4 b 0 h c)) = ix3 b 0 h :=
  funext fun a => by match a with | ⟨0, _⟩ => rfl | ⟨1, _⟩ => rfl | ⟨2, _⟩ => rfl
/-- The weight index of the weighted sum. -/
theorem lidx21 (b : Fin 8) (h : Fin 32) (c : Fin 512) (j : Fin 8192) : lidx_main_v21 (ix4 b 0 h c) j = ix4 b 0 h j :=
  funext fun a => by match a with | ⟨0, _⟩ => rfl | ⟨1, _⟩ => rfl | ⟨2, _⟩ => rfl | ⟨3, _⟩ => rfl
/-- The codes index of the weighted sum. -/
theorem ridx21 (b : Fin 8) (h : Fin 32) (c : Fin 512) (j : Fin 8192) : ridx_main_v21 (ix4 b 0 h c) j = ix3 b j c :=
  funext fun a => by match a with | ⟨0, _⟩ => rfl | ⟨1, _⟩ => rfl | ⟨2, _⟩ => rfl
/-- The head and component of a result column. -/
theorem idx24 (b : Fin 8) (h : Fin 32) (c : Fin 512) : idx_main_v24 (ix3 b 0 (col h c)) = ix4 b 0 h c := funext fun a => Fin.ext (by
  match a with
  | ⟨0, _⟩ => show ((b.val * 1 + 0) * 16384 + (h.val * 512 + c.val)) / 16384 = b.val; omega
  | ⟨1, _⟩ => rfl
  | ⟨2, _⟩ => show ((b.val * 1 + 0) * 16384 + (h.val * 512 + c.val)) / 512 % 32 = h.val; omega
  | ⟨3, _⟩ => show ((b.val * 1 + 0) * 16384 + (h.val * 512 + c.val)) % 512 = c.val; omega)

/-- A maximum over the last axis, read at an index. -/
theorem reduce_max_apply (y : FVec Ideal S8x1x32x8192 .f32) (z : FVec Ideal S_ .f32) (b : Fin 8) (h : Fin 32) :
    Host.reduce FloatOps.maximumf y z reducesTo_S8x1x32x8192_S8x1x32_d3 h_S_ (ix3 b 0 h)
      = (Finset.univ : Finset (Fin 8192)).fold (max : EReal → EReal → EReal) (z (Shape.Idx.first h_S_)) fun j => y (ix4 b 0 h j) := by
  have hr : S8x1x32x8192.Reduces [3] S8x1x32 := by decide
  rw [Host.reduce_eq_fold_single FloatOps.maximumf y z reducesTo_S8x1x32x8192_S8x1x32_d3 hr h_S_]
  have hf : (y ∘ hr.lift (ix3 b 0 h)) = fun j : Fin 8192 => y (ix4 b 0 h j) := funext fun j => congrArg y
    (funext fun a => Fin.ext (by match a with | ⟨0, _⟩ => rfl | ⟨1, _⟩ => rfl | ⟨2, _⟩ => rfl | ⟨3, _⟩ => rfl))
  exact congrArg (fun f => Finset.fold max (z (Shape.Idx.first h_S_)) f (Finset.univ : Finset (Fin 8192))) hf

/-- The host's operations as one function of the contents after the kernel: the stages of the Read module at them. -/
abbrev hostValue : S8x1x16384.Idx → EReal :=
  val_main_v25 (F := Ideal) (m ((c.tc : Thread nD τ).loc main_arg1)) (m ((c.tc : Thread nD τ).loc main_arg3)) (m ((c.tc : Thread nD τ).loc main_arg4))
    (Cert.ReferenceIdeal.Value.reg_main_v1 m c) (shapeCast _ (m ((c.tc : Thread nD τ).loc main_arg0)) shapeCasts_S8x1x16384_S8x1x32x512)

variable (he : ∀ (b : Fin 8) (h : Fin 32) (k : Fin 512), e (ix4 b 0 h k) = x (ix3 b 0 (col h k)))
include he

/-- The scaled scores. -/
theorem v9_apply (b : Fin 8) (h : Fin 32) (j : Fin 8192) :
    val_main_v9 (F := Ideal) x1 x3 x4 r e (ix4 b 0 h j) = score x x1 r x3 x4 b h j.val := by
  rw [val_main_v9_apply, val_main_v7_apply, val_main_v6_apply, val_main_v2_apply, val_main_v3_apply, val_main_v5_apply,
    val_main_v4_apply, val_main_v8_apply, val_main_cst_apply, idx45]
  simp only [lidx2, ridx2, lidx3, ridx3, he]
  unfold score
  rw [pos_val]
  rfl

/-- The maxima over the positions. -/
theorem v10_apply (b : Fin 8) (h : Fin 32) :
    val_main_v10 (F := Ideal) x1 x3 x4 r e (ix3 b 0 h) = smax (score x x1 r x3 x4 b h) 8192 := by
  unfold val_main_v10
  rw [reduce_max_apply]
  refine (congrArg (fun z : EReal => Finset.univ.fold max z _) (show val_main_cst_0 (F := Ideal) (Shape.Idx.first h_S_) = (⊥ : EReal) from ofBits_neg_inf)).trans ?_
  exact fold_max_eq_smax (score x x1 r x3 x4 b h) _ fun j => v9_apply x x1 r x3 x4 e he b h j

/-- The weights. -/
theorem v14_apply (b : Fin 8) (h : Fin 32) (j : Fin 8192) :
    val_main_v14 (F := Ideal) x1 x3 x4 r e (ix4 b 0 h j)
      = Ideal.exp (score x x1 r x3 x4 b h j.val - smax (score x x1 r x3 x4 b h) 8192) := by
  rw [val_main_v14_apply, val_main_v13_apply, val_main_v12_apply, val_main_v11_apply, idx1112,
    v9_apply x x1 r x3 x4 e he, v10_apply x x1 r x3 x4 e he]
  rfl

/-- The sums of the weights. -/
theorem v15_apply (b : Fin 8) (h : Fin 32) :
    val_main_v15 (F := Ideal) x1 x3 x4 r e (ix3 b 0 h)
      = wsum (Finset.range 8192) (score x x1 r x3 x4 b h) (fun _ => 1) (smax (score x x1 r x3 x4 b h) 8192) := by
  have h0 : val_main_cst_1 (F := Ideal) (Shape.Idx.first h_S_) = (0 : EReal) := Ideal.ofBits_zero_f32
  refine (val_main_v15_apply x1 x3 x4 r e (ix3 b 0 h)).trans ?_
  refine (congrArg (fun z : EReal => z + _) h0).trans ((zero_add _).trans ?_)
  refine sum_fin_eq_range _ _ fun j => ?_
  rw [idx15, v14_apply x x1 r x3 x4 e he, mul_one]

/-- The weighted sums of the scaled codes. -/
theorem v21_apply (b : Fin 8) (h : Fin 32) (c : Fin 512) :
    val_main_v21 (F := Ideal) x1 x3 x4 r e (ix4 b 0 h c)
      = wsum (Finset.range 8192) (score x x1 r x3 x4 b h) (value r x3 b c) (smax (score x x1 r x3 x4 b h) 8192) := by
  refine (val_main_v21_apply x1 x3 x4 r e (ix4 b 0 h c)).trans ?_
  refine sum_fin_eq_range _ _ fun j => ?_
  rw [lidx21, ridx21, val_main_v20_apply, val_main_v19_apply, val_main_v18_apply, val_main_v17_apply, idx1718,
    v14_apply x x1 r x3 x4 e he]
  unfold value
  rw [pos_val]
  exact mul_assoc (_ : EReal) _ _

/-- The result at batch row `b`, column of component `c` of head `h`: the softmax attention. -/
theorem v25_apply (b : Fin 8) (h : Fin 32) (c : Fin 512) :
    val_main_v25 (F := Ideal) x1 x3 x4 r e (ix3 b 0 (col h c)) = attn x x1 r x3 x4 b h c := by
  rw [val_main_v25_apply, val_main_v24_apply, idx24, val_main_v23_apply, val_main_v22_apply, val_main_v16_apply, idx1622,
    v21_apply x x1 r x3 x4 e he, v15_apply x x1 r x3 x4 e he]
  rfl

omit he

/-- The query with its heads apart, read at an index. -/
theorem heads_apply (b : Fin 8) (h : Fin 32) (k : Fin 512) :
    shapeCast S8x1x32x512 x shapeCasts_S8x1x16384_S8x1x32x512 (ix4 b 0 h k) = x (ix3 b 0 (col h k)) :=
  shapeCast_apply _ _ _ (ix3 b 0 (col h k)) (by
    rw [Shape.rowMajor_val_three, Shape.rowMajor_val_four]
    show (b.val * 1 + 0) * 16384 + (h.val * 512 + k.val) = ((b.val * 1 + 0) * 32 + h.val) * 512 + k.val
    omega)

/-- The reference's result at batch row `b`, column of component `k` of head `h`: the softmax attention of the arguments. -/
theorem result_apply (b : Fin 8) (h : Fin 32) (k : Fin 512) :
    hostValue m c (ix3 b 0 (col h k))
      = attn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b h k := by
  unfold hostValue
  rw [array_eq]
  exact v25_apply _ _ _ _ _ _ (heads_apply _) b h k

end Cert.ReferenceIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelArray
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- On equal arguments both idealized programs return the kernel's array: at every index each is the softmax attention of the
    arguments (`Cert.Attention.attn`). -/
theorem algebraic : letI := Cert.KernelIdeal.Gen.facts; letI := Cert.ReferenceIdeal.Gen.facts; Cert.algebraic_KernelIdeal_ReferenceIdeal := by
  intro m g m' g' _ hag
  refine ⟨_, Cert.KernelIdeal.Value.run m g, ?_⟩
  refine (θ_run _ _ _).mono (fun r h c => ⟨(h c).1.trans ?_, (h c).2⟩) (Cert.ReferenceIdeal.Value.run m' g')
  obtain ⟨h0, h1, h2, h3, h4⟩ := hag c
  refine Eq.trans (b := Cert.ReferenceIdeal.Attn.hostValue m' c) rfl (funext fun i => ?_)
  obtain ⟨b, h, k, hi⟩ := Cert.Attention.exists_col i
  rw [hi, Cert.ReferenceIdeal.Attn.result_apply, h0, h1, h2, h3, h4]
  exact (Cert.KernelIdeal.Array.result_apply m c b h k).symm

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
